-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S256x40x64 : Shape := ⟨3, ![256, 40, 64]⟩
abbrev S40x64x64 : Shape := ⟨3, ![40, 64, 64]⟩
abbrev S40x40x40 : Shape := ⟨3, ![40, 40, 40]⟩
abbrev S40x64x1 : Shape := ⟨3, ![40, 64, 1]⟩
abbrev S_ : Shape := ⟨0, ![]⟩

class Facts : Prop where
  bcast_S_S256x40x64 : S_.BroadcastsInDim S256x40x64 (![] : Fin 0 → Fin S256x40x64.rank)
  reducesTo_S256x40x64_S_d0_1_2 : S256x40x64.ReducesTo [0, 1, 2] S_
  h_S_ : 0 < S_.numel
  bcast_S_S40x64x64 : S_.BroadcastsInDim S40x64x64 (![] : Fin 0 → Fin S40x64x64.rank)
  reducesTo_S40x64x64_S_d0_1_2 : S40x64x64.ReducesTo [0, 1, 2] S_
  bcast_S_S40x40x40 : S_.BroadcastsInDim S40x40x40 (![] : Fin 0 → Fin S40x40x40.rank)
  reducesTo_S40x40x40_S_d0_1_2 : S40x40x40.ReducesTo [0, 1, 2] S_
  bcast_S_S40x64x1 : S_.BroadcastsInDim S40x64x1 (![] : Fin 0 → Fin S40x64x1.rank)
  reducesTo_S40x64x1_S_d0_1_2 : S40x64x1.ReducesTo [0, 1, 2] S_

variable [Facts]

def fn_part1 {F : FTy → Type} [FloatOps F] (main_arg4 : FVec F S40x64x1 .f32) (main_v13 : IVec S_ 1) (main_v16 : IVec S40x40x40 1) : IVec S_ 1 :=
  let main_c_5 : IVec S_ 1 := constantI S_ 1 1#1
  let main_v17 : IVec S_ 1 := (fun x v => Host.reduce IntOp.andi x v reducesTo_S40x40x40_S_d0_1_2 h_S_) main_v16 main_c_5
  let main_v18 : IVec S_ 1 := andi main_v13 main_v17
  let main_v19 : FVec F S40x64x1 .f32 := Host.absf main_arg4
  let main_cst_6 : FVec F S_ .f32 := constant S_ .f32 0x7F800000#32
  let main_v20 : FVec F S40x64x1 .f32 := broadcastInDim S40x64x1 ![] bcast_S_S40x64x1 main_cst_6
  let main_v21 : IVec S40x64x1 1 := cmpf .olt main_v19 main_v20
  let main_c_7 : IVec S_ 1 := constantI S_ 1 1#1
  let main_v22 : IVec S_ 1 := (fun x v => Host.reduce IntOp.andi x v reducesTo_S40x64x1_S_d0_1_2 h_S_) main_v21 main_c_7
  let main_v23 : IVec S_ 1 := andi main_v18 main_v22
  main_v23

def fn {F : FTy → Type} [FloatOps F] (main_arg0 : FVec F S256x40x64 .f32) (main_arg1 : FVec F S256x40x64 .f32) (main_arg2 : FVec F S40x64x64 .f32) (main_arg3 : FVec F S40x40x40 .f32) (main_arg4 : FVec F S40x64x1 .f32) : IVec S_ 1 :=
  let main_v0 : FVec F S256x40x64 .f32 := Host.absf main_arg0
  let main_cst : FVec F S_ .f32 := constant S_ .f32 0x7F800000#32
  let main_v1 : FVec F S256x40x64 .f32 := broadcastInDim S256x40x64 ![] bcast_S_S256x40x64 main_cst
  let main_v2 : IVec S256x40x64 1 := cmpf .olt main_v0 main_v1
  let main_c : IVec S_ 1 := constantI S_ 1 1#1
  let main_v3 : IVec S_ 1 := (fun x v => Host.reduce IntOp.andi x v reducesTo_S256x40x64_S_d0_1_2 h_S_) main_v2 main_c
  let main_v4 : FVec F S256x40x64 .f32 := Host.absf main_arg1
  let main_cst_0 : FVec F S_ .f32 := constant S_ .f32 0x7F800000#32
  let main_v5 : FVec F S256x40x64 .f32 := broadcastInDim S256x40x64 ![] bcast_S_S256x40x64 main_cst_0
  let main_v6 : IVec S256x40x64 1 := cmpf .olt main_v4 main_v5
  let main_c_1 : IVec S_ 1 := constantI S_ 1 1#1
  let main_v7 : IVec S_ 1 := (fun x v => Host.reduce IntOp.andi x v reducesTo_S256x40x64_S_d0_1_2 h_S_) main_v6 main_c_1
  let main_v8 : IVec S_ 1 := andi main_v3 main_v7
  let main_v9 : FVec F S40x64x64 .f32 := Host.absf main_arg2
  let main_cst_2 : FVec F S_ .f32 := constant S_ .f32 0x7F800000#32
  let main_v10 : FVec F S40x64x64 .f32 := broadcastInDim S40x64x64 ![] bcast_S_S40x64x64 main_cst_2
  let main_v11 : IVec S40x64x64 1 := cmpf .olt main_v9 main_v10
  let main_c_3 : IVec S_ 1 := constantI S_ 1 1#1
  let main_v12 : IVec S_ 1 := (fun x v => Host.reduce IntOp.andi x v reducesTo_S40x64x64_S_d0_1_2 h_S_) main_v11 main_c_3
  let main_v13 : IVec S_ 1 := andi main_v8 main_v12
  let main_v14 : FVec F S40x40x40 .f32 := Host.absf main_arg3
  let main_cst_4 : FVec F S_ .f32 := constant S_ .f32 0x7F800000#32
  let main_v15 : FVec F S40x40x40 .f32 := broadcastInDim S40x40x40 ![] bcast_S_S40x40x40 main_cst_4
  let main_v16 : IVec S40x40x40 1 := cmpf .olt main_v14 main_v15
  fn_part1 (F := F) main_arg4 main_v13 main_v16
-- ==== Kernel.lean ====
abbrev S256x40x64 : Shape := ⟨3, ![256, 40, 64]⟩
abbrev S40x64x64 : Shape := ⟨3, ![40, 64, 64]⟩
abbrev S40x40x40 : Shape := ⟨3, ![40, 40, 40]⟩
abbrev S40x64x1 : Shape := ⟨3, ![40, 64, 1]⟩
abbrev S40x256x64 : Shape := ⟨3, ![40, 256, 64]⟩
abbrev S40x64 : Shape := ⟨2, ![40, 64]⟩
abbrev S40x16x64 : Shape := ⟨3, ![40, 16, 64]⟩
abbrev S16x40x64 : Shape := ⟨3, ![16, 40, 64]⟩
abbrev S40x40x16x64 : Shape := ⟨4, ![40, 40, 16, 64]⟩
abbrev S40x1x64 : Shape := ⟨3, ![40, 1, 64]⟩
abbrev S1x40x16x64 : Shape := ⟨4, ![1, 40, 16, 64]⟩

abbrev nBuf : Space → Nat
  | .hbm => 10
  | .vmem => 9
  | .smem => 0
  | _ => 0

abbrev bufTy : (tb : Table) → Fin (tcTables nBuf tb) → BufTy
  | .hbm, ⟨0, _⟩ => ⟨S256x40x64, .f32⟩
  | .hbm, ⟨1, _⟩ => ⟨S256x40x64, .f32⟩
  | .hbm, ⟨2, _⟩ => ⟨S40x64x64, .f32⟩
  | .hbm, ⟨3, _⟩ => ⟨S40x40x40, .f32⟩
  | .hbm, ⟨4, _⟩ => ⟨S40x64x1, .f32⟩
  | .hbm, ⟨5, _⟩ => ⟨S40x40x40, .f32⟩
  | .hbm, ⟨6, _⟩ => ⟨S40x256x64, .f32⟩
  | .hbm, ⟨7, _⟩ => ⟨S40x256x64, .f32⟩
  | .hbm, ⟨8, _⟩ => ⟨S40x64, .f32⟩
  | .hbm, ⟨9, _⟩ => ⟨S256x40x64, .f32⟩
  | .local _ .vmem, ⟨0, _⟩ => ⟨S40x40x40, .f32⟩
  | .local _ .vmem, ⟨1, _⟩ => ⟨S40x16x64, .f32⟩
  | .local _ .vmem, ⟨2, _⟩ => ⟨S40x16x64, .f32⟩
  | .local _ .vmem, ⟨3, _⟩ => ⟨S40x16x64, .f32⟩
  | .local _ .vmem, ⟨4, _⟩ => ⟨S40x16x64, .f32⟩
  | .local _ .vmem, ⟨5, _⟩ => ⟨S40x64x64, .f32⟩
  | .local _ .vmem, ⟨6, _⟩ => ⟨S40x64, .f32⟩
  | .local _ .vmem, ⟨7, _⟩ => ⟨S16x40x64, .f32⟩
  | .local _ .vmem, ⟨8, _⟩ => ⟨S16x40x64, .f32⟩
  | _, _ => ⟨S256x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S40x40x40 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S40x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S40x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x40x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x40x64 : Shape := ⟨3, ![256, 40, 64]⟩
abbrev S40x64x64 : Shape := ⟨3, ![40, 64, 64]⟩
abbrev S40x40x40 : Shape := ⟨3, ![40, 40, 40]⟩
abbrev S40x64x1 : Shape := ⟨3, ![40, 64, 1]⟩
abbrev S40x40x256x64 : Shape := ⟨4, ![40, 40, 256, 64]⟩
abbrev S256x40x64x64 : Shape := ⟨4, ![256, 40, 64, 64]⟩
abbrev S1x40x64x64 : Shape := ⟨4, ![1, 40, 64, 64]⟩
abbrev S40x64 : Shape := ⟨2, ![40, 64]⟩
abbrev S1x40x1x64 : Shape := ⟨4, ![1, 40, 1, 64]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S256x40x64, .f32⟩
  | .hbm, ⟨1, _⟩ => ⟨S256x40x64, .f32⟩
  | .hbm, ⟨2, _⟩ => ⟨S40x64x64, .f32⟩
  | .hbm, ⟨3, _⟩ => ⟨S40x40x40, .f32⟩
  | .hbm, ⟨4, _⟩ => ⟨S40x64x1, .f32⟩
  | .hbm, ⟨5, _⟩ => ⟨S40x40x256x64, .f32⟩
  | .hbm, ⟨6, _⟩ => ⟨S256x40x64x64, .f32⟩
  | .hbm, ⟨7, _⟩ => ⟨S1x40x64x64, .f32⟩
  | .hbm, ⟨8, _⟩ => ⟨S256x40x64x64, .f32⟩
  | .hbm, ⟨9, _⟩ => ⟨S256x40x64x64, .f32⟩
  | .hbm, ⟨10, _⟩ => ⟨S40x64, .f32⟩
  | .hbm, ⟨11, _⟩ => ⟨S1x40x1x64, .f32⟩
  | .hbm, ⟨12, _⟩ => ⟨S256x40x64x64, .f32⟩
  | .hbm, ⟨13, _⟩ => ⟨S256x40x64x64, .f32⟩
  | .hbm, ⟨14, _⟩ => ⟨S_, .f32⟩
  | .hbm, ⟨15, _⟩ => ⟨S256x40x64, .f32⟩
  | _, _ => ⟨S256x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Block.lean ====
/-
  WHAT ONE GRID POINT COMPUTES, at an index: the block the kernel body stores, over the blocks it loads.
-/
module

public import proofs.«01_k».proof.Proof.Gen.KernelIdeal.Skeleton
public import Idealize.ShloMosaic.Lib.Pointwise

@[expose] public section

set_option maxRecDepth 16384

noncomputable section

open Idealize.ShloMosaic

namespace Cert.KernelIdeal.Block

open Cert.KernelIdeal Cert.KernelIdeal.Gen

/-- The stored block at batch row `b`, field `n`, lane `D`: with `a = α_t` (`[n, f, i]`), `x = bi_t` (`[i, b, d]`), `w = W`
    (`[n, D, d]`), `h` (`[n, d]`) and `y = b0_t` (`[f, b, D]`), the triple sum in the body's order — over `i` in the first
    product, over `d` in the second, over `f` in the closing reduction. -/
theorem pay_apply (a : FVec Ideal S40x40x40 .f32) (x : FVec Ideal S40x16x64 .f32) (w : FVec Ideal S40x64x64 .f32)
    (h : FVec Ideal S40x64 .f32) (y : FVec Ideal S40x16x64 .f32) (b : Fin 16) (n : Fin 40) (D : Fin 64) :
    k0_pay1 (F := Ideal) a x w h y (ix3 b n D)
      = ∑ f : Fin 40, (∑ d : Fin 64, (∑ i : Fin 40, a (ix3 n f i) * x (ix3 i b d)) * (w (ix3 n D d) * h (ix2 n d))) * y (ix3 f b D) := by
  unfold_payloads
  pointwise [dot_S40x40x40_S40x16x64_S40x40x16x64_2_0_01_12_n_n, dot_S40x40x16x64_S40x64x64_S40x40x16x64_3_2_12_1_0_0]

end Cert.KernelIdeal.Block

end
-- ==== Proof.Finite.lean ====
/-
  Extended-real arithmetic the certificate needs, free of any program: sums of products of FINITE extended reals may be
  regrouped. The kernel and the reference name the same sum of products
  `α f i * Bi i d * (W d * h d) * B0 f` over `f`, `i`, `d`, but nest the three sums in a different order; moving a factor
  through a sum is distributivity, which the extended reals have only away from the infinities.
-/
module

public import Mathlib.Data.EReal.Operations
public import Mathlib.Algebra.BigOperators.Ring.Finset
public import Mathlib.Algebra.BigOperators.Group.Finset.Sigma
public import Mathlib.Tactic.Ring

@[expose] public section

namespace Cert.Finite

/-- `x` is a real number: neither infinity. -/
def IsReal (x : EReal) : Prop := x ≠ ⊤ ∧ x ≠ ⊥

/-- A finite extended real is the coercion of its real part. -/
theorem IsReal.eq_coe {x : EReal} (h : IsReal x) : x = ((x.toReal : ℝ) : EReal) := (EReal.coe_toReal h.1 h.2).symm

/-- The coercion of a finite sum of reals is the sum of the coercions. -/
theorem coe_sum {ι : Type} [Fintype ι] (u : ι → ℝ) : ((∑ k, u k : ℝ) : EReal) = ∑ k, ((u k : ℝ) : EReal) := by
  classical
  induction (Finset.univ : Finset ι) using Finset.induction_on with
  | empty => simp
  | insert a s ha ih => rw [Finset.sum_insert ha, Finset.sum_insert ha, EReal.coe_add, ih]

/-- The equation over the reals: both sides are `∑ f, ∑ d, ∑ i, α f i * Bi i d * (W d * h d) * B0 f`. -/
theorem regroup_real {f i d : Type} [Fintype f] [Fintype i] [Fintype d] (α : f → i → ℝ) (Bi : i → d → ℝ) (W h : d → ℝ) (B0 : f → ℝ) :
    ∑ φ, (∑ δ, (∑ ι, α φ ι * Bi ι δ) * (W δ * h δ)) * B0 φ = ∑ δ, (∑ ι, (∑ φ, α φ ι * B0 φ) * Bi ι δ) * W δ * h δ := by
  simp only [Finset.sum_mul, Finset.mul_sum]
  rw [Finset.sum_comm]
  refine Finset.sum_congr rfl fun δ _ => ?_
  rw [Finset.sum_comm]
  exact Finset.sum_congr rfl fun ι _ => Finset.sum_congr rfl fun φ _ => by ring

/-- The equation over the extended reals, every entry finite: summing over `i`, then `d`, then `f` (the kernel's nesting)
    is summing over `f`, then `i`, then `d` (the reference's). -/
theorem regroup {f i d : Type} [Fintype f] [Fintype i] [Fintype d] {α : f → i → EReal} {Bi : i → d → EReal} {W h : d → EReal} {B0 : f → EReal}
    (hα : ∀ φ ι, IsReal (α φ ι)) (hBi : ∀ ι δ, IsReal (Bi ι δ)) (hW : ∀ δ, IsReal (W δ)) (hh : ∀ δ, IsReal (h δ)) (hB0 : ∀ φ, IsReal (B0 φ)) :
    ∑ φ, (∑ δ, (∑ ι, α φ ι * Bi ι δ) * (W δ * h δ)) * B0 φ = ∑ δ, (∑ ι, (∑ φ, α φ ι * B0 φ) * Bi ι δ) * W δ * h δ := by
  have key := congrArg (fun r : ℝ => (r : EReal)) (regroup_real (fun φ ι => (α φ ι).toReal) (fun ι δ => (Bi ι δ).toReal)
    (fun δ => (W δ).toReal) (fun δ => (h δ).toReal) fun φ => (B0 φ).toReal)
  simp only [coe_sum, EReal.coe_mul, ← (hα _ _).eq_coe, ← (hBi _ _).eq_coe, ← (hW _).eq_coe, ← (hh _).eq_coe, ← (hB0 _).eq_coe] at key
  exact key

end Cert.Finite
-- ==== Proof.Formula.lean ====
/-
  The two programs' formulas as functions of the five argument arrays `B0`, `Bi`, `W`, `α`, `h` (shapes as the
  programs receive them), and that they are one function on finite arguments.
-/
module

public import proofs.«01_k».proof.Proof.Finite
public import proofs.«01_k».proof.KernelIdeal
public import Idealize.ShloMosaic.Lib.Pointwise

@[expose] public section

noncomputable section

open Idealize.ShloMosaic

namespace Cert.Formula

open Cert.KernelIdeal

/-- The kernel's nesting: at `(b, n, D)`, `∑ f, (∑ d, (∑ i, α[f,i,n] * Bi[b,i,d]) * (W[n,D,d] * h[n,d])) * B0[b,f,D]`. -/
def kernelOut (B0 Bi : S256x40x64.Idx → EReal) (W : S40x64x64.Idx → EReal) (α : S40x40x40.Idx → EReal) (h : S40x64x1.Idx → EReal) :
    S256x40x64.Idx → EReal := fun o =>
  ∑ f : Fin 40, (∑ d : Fin 64, (∑ i : Fin 40, α (ix3 f i (o 1)) * Bi (ix3 (o 0) i d)) * (W (ix3 (o 1) (o 2) d) * h (ix3 (o 1) d 0)))
    * B0 (ix3 (o 0) f (o 2))

/-- The reference's nesting: at `(b, n, D)`, `∑ d, (∑ i, (∑ f, α[f,i,n] * B0[b,f,D]) * Bi[b,i,d]) * W[n,D,d] * h[n,d]`. -/
def referenceOut (B0 Bi : S256x40x64.Idx → EReal) (W : S40x64x64.Idx → EReal) (α : S40x40x40.Idx → EReal) (h : S40x64x1.Idx → EReal) :
    S256x40x64.Idx → EReal := fun o =>
  ∑ d : Fin 64, (∑ i : Fin 40, (∑ f : Fin 40, α (ix3 f i (o 1)) * B0 (ix3 (o 0) f (o 2))) * Bi (ix3 (o 0) i d))
    * W (ix3 (o 1) (o 2) d) * h (ix3 (o 1) d 0)

/-- On finite arguments the two are one array. -/
theorem kernelOut_eq_referenceOut {B0 Bi : S256x40x64.Idx → EReal} {W : S40x64x64.Idx → EReal} {α : S40x40x40.Idx → EReal}
    {h : S40x64x1.Idx → EReal} (hB0 : ∀ i, Finite.IsReal (B0 i)) (hBi : ∀ i, Finite.IsReal (Bi i)) (hW : ∀ i, Finite.IsReal (W i))
    (hα : ∀ i, Finite.IsReal (α i)) (hh : ∀ i, Finite.IsReal (h i)) : kernelOut B0 Bi W α h = referenceOut B0 Bi W α h :=
  funext fun _ => Finite.regroup (fun _ _ => hα _) (fun _ _ => hBi _) (fun _ => hW _) (fun _ => hh _) fun _ => hB0 _

end Cert.Formula

end
-- ==== Proof.Array.lean ====
/-
  WHAT THE KERNEL'S RESULT ARRAY HOLDS: the sixteen blocks of sixteen batch rows put together are `Formula.kernelOut` of the
  launch contents of the five arguments.
-/
module

public import proofs.«01_k».proof.Proof.Block
public import proofs.«01_k».proof.Proof.Formula
public import proofs.«01_k».proof.Proof.Gen.KernelIdeal.Frame
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen

variable (m : (ℓ : Loc nD τ sig) → Buf (Elt Ideal) ℓ)

/-! ## The arrays the windows read, as the host operations leave them -/

/-- `α_t[n, f, i] = α[f, i, n]`. -/
theorem V_alpha (c : Dev nD) (n f i : Fin 40) :
    V (F := Ideal) m c main_v0 (ix3 n f i) = m ((c : Thread nD τ).loc main_arg3) (ix3 f i n) := by
  have e : V (F := Ideal) m c main_v0
      = transpose S40x40x40 [2, 0, 1] (m ((c : Thread nD τ).loc main_arg3)) transposes_S40x40x40_S40x40x40_2_0_1 := by
    unfold V; after_results <;> rfl
  rw [e]; pointwise

/-- `bi_t[i, b, d] = Bi[b, i, d]`. -/
theorem V_bi (c : Dev nD) (i : Fin 40) (b : Fin 256) (d : Fin 64) :
    V (F := Ideal) m c main_v1 (ix3 i b d) = m ((c : Thread nD τ).loc main_arg1) (ix3 b i d) := by
  have e : V (F := Ideal) m c main_v1
      = transpose S40x256x64 [1, 0, 2] (m ((c : Thread nD τ).loc main_arg1)) transposes_S256x40x64_S40x256x64_1_0_2 := by
    unfold V; after_results <;> rfl
  rw [e]; pointwise

/-- `b0_t[f, b, D] = B0[b, f, D]`. -/
theorem V_b0 (c : Dev nD) (f : Fin 40) (b : Fin 256) (D : Fin 64) :
    V (F := Ideal) m c main_v2 (ix3 f b D) = m ((c : Thread nD τ).loc main_arg0) (ix3 b f D) := by
  have e : V (F := Ideal) m c main_v2
      = transpose S40x256x64 [1, 0, 2] (m ((c : Thread nD τ).loc main_arg0)) transposes_S256x40x64_S40x256x64_1_0_2 := by
    unfold V; after_results <;> rfl
  rw [e]; pointwise

/-- `h2[n, d] = h[n, d, 0]`: the reshape drops the unit axis. -/
theorem V_h (c : Dev nD) (n : Fin 40) (d : Fin 64) :
    V (F := Ideal) m c main_v3 (ix2 n d) = m ((c : Thread nD τ).loc main_arg4) (ix3 n d 0) := by
  have e : V (F := Ideal) m c main_v3
      = shapeCast S40x64 (m ((c : Thread nD τ).loc main_arg4)) shapeCasts_S40x64x1_S40x64 := by
    unfold V; after_results <;> rfl
  rw [e]; pointwise

/-! ## The blocks -/

/-- Every window's block index at every point: point `t` takes batch block `t`. -/
theorem idx : ∀ t : Fin cfg0.N, win0_0.index t = ![0, 0, 0] ∧ win0_1.index t = ![0, t.val, 0] ∧ win0_2.index t = ![0, t.val, 0]
    ∧ win0_3.index t = ![0, 0, 0] ∧ win0_4.index t = ![0, 0] ∧ win0_5.index t = ![t.val, 0, 0] :=
  (by decide +kernel : ∀ t : Fin grid0.N, _)

/-- Batch row `b` of point `t`'s block is row `16 t + b` of the arrays. -/
def row (t : Fin cfg0.N) (b : Fin 16) : Fin 256 :=
  ⟨t.val * 16 + b.val, by have ht : t.val < 16 := lt_of_lt_of_eq t.isLt N_0; omega⟩

/-- Window 0 reads the whole of `α_t` at every point. -/
theorem blk_alpha (c : Dev nD) (t : Fin cfg0.N) (n f i : Fin 40) :
    iblk (F := Ideal) m c 0 t (ix3 n f i) = m ((c : Thread nD τ).loc main_arg3) (ix3 f i n) := by
  rw [← V_alpha m c n f i]
  obtain ⟨h, -⟩ := idx t
  blk_ext [iblk, h]

/-- Window 1 reads batch rows `16 t … 16 t + 15` of `bi_t`. -/
theorem blk_bi (c : Dev nD) (t : Fin cfg0.N) (i : Fin 40) (b : Fin 16) (d : Fin 64) :
    iblk (F := Ideal) m c 1 t (ix3 i b d) = m ((c : Thread nD τ).loc main_arg1) (ix3 (row t b) i d) := by
  rw [← V_bi m c i (row t b) d]
  obtain ⟨-, h, -⟩ := idx t
  blk_ext [iblk, h, row]

/-- Window 2 reads batch rows `16 t … 16 t + 15` of `b0_t`. -/
theorem blk_b0 (c : Dev nD) (t : Fin cfg0.N) (f : Fin 40) (b : Fin 16) (D : Fin 64) :
    iblk (F := Ideal) m c 2 t (ix3 f b D) = m ((c : Thread nD τ).loc main_arg0) (ix3 (row t b) f D) := by
  rw [← V_b0 m c f (row t b) D]
  obtain ⟨-, -, h, -⟩ := idx t
  blk_ext [iblk, h, row]

/-- Window 3 reads the whole of `W` at every point. -/
theorem blk_w (c : Dev nD) (t : Fin cfg0.N) (n : Fin 40) (D d : Fin 64) :
    iblk (F := Ideal) m c 3 t (ix3 n D d) = m ((c : Thread nD τ).loc main_arg2) (ix3 n D d) := by
  rw [← V_main_arg2 m c]
  obtain ⟨-, -, -, h, -⟩ := idx t
  blk_ext [iblk, h]

/-- Window 4 reads the whole of `h2` at every point. -/
theorem blk_h (c : Dev nD) (t : Fin cfg0.N) (n : Fin 40) (d : Fin 64) :
    iblk (F := Ideal) m c 4 t (ix2 n d) = m ((c : Thread nD τ).loc main_arg4) (ix3 n d 0) := by
  rw [← V_h m c n d]
  obtain ⟨-, -, -, -, h, -⟩ := idx t
  blk_ext [iblk, h]

/-! ## The result array -/

/-- The kernel's formula over device `c`'s launch contents. -/
abbrev out (c : Dev nD) : Buf (Elt Ideal) ((c : Thread nD τ).loc main_v4) :=
  Formula.kernelOut (m ((c : Thread nD τ).loc main_arg0)) (m ((c : Thread nD τ).loc main_arg1)) (m ((c : Thread nD τ).loc main_arg2))
    (m ((c : Thread nD τ).loc main_arg3)) (m ((c : Thread nD τ).loc main_arg4))

/-- What point `t` stores at block index `y` is the formula at the array index `y` sits at. -/
theorem point (c : Dev nD) (t : Fin cfg0.N) (y : S16x40x64.Idx) :
    k0_pay1 (F := Ideal) (iblk m c 0 t) (iblk m c 1 t) (iblk m c 3 t) (iblk m c 4 t) (iblk m c 2 t) y
      = out m c (((cfg0.win 5).blk t).view.emb y) := by
  idx_vars y
  have e : ((cfg0.win 5).blk t).view.emb (ix3 y0 y1 y2) = ix3 (row t y0) y1 y2 := by
    obtain ⟨-, -, -, -, -, h⟩ := idx t
    blk_ext [h, row]
  rw [e, Block.pay_apply]
  simp only [blk_alpha, blk_bi, blk_b0, blk_w, blk_h]
  rfl

/-- So the result array ends holding the formula of the arguments: the blocks cover it. -/
theorem final (c : Dev nD) : (dats (F := Ideal) m 0 c).arrAt 5 cfg0.N = out m c := by
  refine (dats m 0 c).arrAt_eq_of_covers 5 _ (by decide +kernel) fun t _ y => ?_
  blk_simp
  rw [after0_5]; frame_out
  exact point m c t y

/-- The run, read: the result array at the formula, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Array

end
-- ==== Proof.Reference.lean ====
/-
  WHAT THE REFERENCE COMPUTES, at an index: its two contractions, two products and closing sum, composed, are
  `Formula.referenceOut` of its arguments.
-/
module

public import proofs.«01_k».proof.Proof.Formula
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.Closed

open Cert.ReferenceIdeal Cert.ReferenceIdeal.Gen Cert.ReferenceIdeal.Read

/-- The composed term of the reference's operations is the formula. -/
theorem result_eq (B0 Bi : FVec Ideal S256x40x64 .f32) (W : FVec Ideal S40x64x64 .f32) (α : FVec Ideal S40x40x40 .f32)
    (h : FVec Ideal S40x64x1 .f32) : val_main_v9 (F := Ideal) B0 Bi W α h = Formula.referenceOut B0 Bi W α h := by
  funext o
  idx_vars o
  unfold Formula.referenceOut
  pointwise [val_main_v9, val_main_cst, val_main_v8, val_main_v7, val_main_v6, val_main_v5, val_main_v4, val_main_v3, val_main_v2,
    val_main_v1, val_main_v0, dot_S40x40x40_S256x40x64_S40x40x256x64_0_1_12_02_n_n,
    dot_S40x40x256x64_S256x40x64_S256x40x64x64_0_1_13_2_2_0]

end Cert.ReferenceIdeal.Closed

end
-- ==== Proof.Precondition.lean ====
/-
  WHAT THE PRECONDITION GIVES: `all_finite` is the conjunction, over the five arguments, of `|x| < ∞` at every element; where
  it is true every element of every argument is a real number.
-/
module

public import proofs.«01_k».proof.Proof.Finite
public import proofs.«01_k».proof.Proof.Gen.Pre_all_finite
public import Idealize.ShloMosaic.Lib.ReduceAll
public import Idealize.ShloMosaic.Lib.Affine
public import Idealize.ShloMosaic.Lib.Pointwise

@[expose] public section

set_option maxRecDepth 16384

noncomputable section

open Idealize.ShloMosaic

namespace Cert.Precondition

open Cert.Pre_all_finite

/-- A comparison `|x| < ∞` that comes out true says `x` is a real number. -/
theorem isReal_of_lt {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) :
    Finite.IsReal (x i) := by
  have inf : Ideal.ofBits .f32 0x7F800000#32 = ⊤ := by simp [Ideal.ofBits, Ideal.ieee]
  have lt : max (x i) (-x i) < (⊤ : EReal) := by
    by_contra hn
    have e' : BitVec.ofBool (decide (max (x i) (-x i) < Ideal.ofBits .f32 0x7F800000#32)) = 1#1 := e
    rw [inf, decide_eq_false hn] at e'
    exact absurd e' (by decide)
  exact ⟨fun ht => absurd lt (by simp [ht]), fun hb => absurd lt (by simp [hb])⟩

/-- Every element of every argument is a real number. -/
theorem finite (B0 Bi : FVec Ideal S256x40x64 .f32) (W : FVec Ideal S40x64x64 .f32) (α : FVec Ideal S40x40x40 .f32)
    (h : FVec Ideal S40x64x1 .f32) (e : fn (F := Ideal) B0 Bi W α h = fun _ => 1#1) :
    (∀ i, Finite.IsReal (B0 i)) ∧ (∀ i, Finite.IsReal (Bi i)) ∧ (∀ i, Finite.IsReal (W i)) ∧ (∀ i, Finite.IsReal (α i))
      ∧ ∀ i, Finite.IsReal (h i) := by
  have e0 := congrFun e (Shape.Idx.first Facts.h_S_)
  simp only [fn, fn_part1, andi, IntOp.andi_eq_one] at e0
  obtain ⟨⟨⟨⟨h0, h1⟩, h2⟩, h3⟩, h4⟩ := e0
  haveI : Subsingleton S_.Idx := ⟨fun a b => funext fun k => k.elim0⟩
  exact ⟨fun i => isReal_of_lt B0 _ i (Host.reduce_andi_all _ _ _ _ _ h0 i), fun i => isReal_of_lt Bi _ i (Host.reduce_andi_all _ _ _ _ _ h1 i),
    fun i => isReal_of_lt W _ i (Host.reduce_andi_all _ _ _ _ _ h2 i), fun i => isReal_of_lt α _ i (Host.reduce_andi_all _ _ _ _ _ h3 i),
    fun i => isReal_of_lt h _ i (Host.reduce_andi_all _ _ _ _ _ h4 i)⟩

end Cert.Precondition

end
-- ==== Proof.lean ====
/-
  The proof of `Cert.Claim`. The two kernels' runs and their frames are the generated ones. The value claim is assembled
  from `Proof/Array.lean` (the kernel's result array as a formula of the arguments), `Proof/Reference.lean` (the
  reference's), `Proof/Precondition.lean` (every argument element is a real number) and `Proof/Formula.lean` (the two
  formulas agree on real numbers).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were, and has no semaphore to leave raised. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On finite arguments the kernel's result array and the reference's are one: the kernel's is `Formula.kernelOut` of the
    arguments, the reference's `Formula.referenceOut` of the same, and the two formulas agree there. -/
theorem algebraic : Cert.algebraic_KernelIdeal_ReferenceIdeal_pre_all_finite := by
  intro m ρ m' ρ' hpre hagree
  refine ⟨fun c => Cert.KernelIdeal.Array.out m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := Precondition.finite _ _ _ _ _ (hpre c)
  obtain ⟨a0, a1, a2, a3, a4⟩ := hagree c
  refine (Cert.ReferenceIdeal.Read.val_main_v9_eq (F := Ideal) _ _ _ _ _).trans ?_
  rw [a0, a1, a2, a3, a4]
  exact (Cert.ReferenceIdeal.Closed.result_eq _ _ _ _ _).trans (Formula.kernelOut_eq_referenceOut h0 h1 h2 h3 h4).symm

/-- All five claims. -/
theorem claim : Cert.Claim :=
  ⟨Cert.Kernel.Gen.facts, Cert.KernelIdeal.Gen.facts, Cert.ReferenceIdeal.Gen.facts, Cert.Pre_all_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    algebraic⟩

end Cert.Proof

end
